-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x768x14x14 : Shape := ⟨4, ![32, 768, 14, 14]⟩
abbrev S384x768x3x3 : Shape := ⟨4, ![384, 768, 3, 3]⟩
abbrev S384 : Shape := ⟨1, ![384]⟩
abbrev S6x384x1x1 : Shape := ⟨4, ![6, 384, 1, 1]⟩
abbrev S6 : Shape := ⟨1, ![6]⟩
abbrev S32x768x196 : Shape := ⟨3, ![32, 768, 196]⟩
abbrev S3x3x768x384 : Shape := ⟨4, ![3, 3, 768, 384]⟩
abbrev S9x768x384 : Shape := ⟨3, ![9, 768, 384]⟩
abbrev S6x384 : Shape := ⟨2, ![6, 384]⟩
abbrev S384x6 : Shape := ⟨2, ![384, 6]⟩
abbrev S1x384 : Shape := ⟨2, ![1, 384]⟩
abbrev S1x6 : Shape := ⟨2, ![1, 6]⟩
abbrev S32x6x196 : Shape := ⟨3, ![32, 6, 196]⟩
abbrev S8x768x196 : Shape := ⟨3, ![8, 768, 196]⟩
abbrev S8x6x196 : Shape := ⟨3, ![8, 6, 196]⟩
abbrev S1888x768 : Shape := ⟨2, ![1888, 768]⟩
abbrev S1x768x196 : Shape := ⟨3, ![1, 768, 196]⟩
abbrev S768x196 : Shape := ⟨2, ![768, 196]⟩
abbrev S196x768 : Shape := ⟨2, ![196, 768]⟩
abbrev S1856x1 : Shape := ⟨2, ![1856, 1]⟩
abbrev S1856x384 : Shape := ⟨2, ![1856, 384]⟩
abbrev S1856x768 : Shape := ⟨2, ![1856, 768]⟩
abbrev S1x768x384 : Shape := ⟨3, ![1, 768, 384]⟩
abbrev S768x384 : Shape := ⟨2, ![768, 384]⟩
abbrev S1856x6 : Shape := ⟨2, ![1856, 6]⟩
abbrev S196x6 : Shape := ⟨2, ![196, 6]⟩
abbrev S6x196 : Shape := ⟨2, ![6, 196]⟩
abbrev S1x6x196 : Shape := ⟨3, ![1, 6, 196]⟩
abbrev S32x1176 : Shape := ⟨2, ![32, 1176]⟩

abbrev nBuf : Space → Nat
  | .hbm => 16
  | .vmem => 9
  | .smem => 0
  | _ => 0

abbrev bufTy : (tb : Table) → Fin (tcTables nBuf tb) → BufTy
  | .hbm, ⟨0, _⟩ => ⟨S32x768x14x14, .f32⟩
  | .hbm, ⟨1, _⟩ => ⟨S384x768x3x3, .f32⟩
  | .hbm, ⟨2, _⟩ => ⟨S384, .f32⟩
  | .hbm, ⟨3, _⟩ => ⟨S6x384x1x1, .f32⟩
  | .hbm, ⟨4, _⟩ => ⟨S6, .f32⟩
  | .hbm, ⟨5, _⟩ => ⟨S32x768x196, .f32⟩
  | .hbm, ⟨6, _⟩ => ⟨S3x3x768x384, .f32⟩
  | .hbm, ⟨7, _⟩ => ⟨S9x768x384, .f32⟩
  | .hbm, ⟨8, _⟩ => ⟨S9x768x384, .bf16⟩
  | .hbm, ⟨9, _⟩ => ⟨S6x384, .f32⟩
  | .hbm, ⟨10, _⟩ => ⟨S384x6, .f32⟩
  | .hbm, ⟨11, _⟩ => ⟨S384x6, .bf16⟩
  | .hbm, ⟨12, _⟩ => ⟨S1x384, .f32⟩
  | .hbm, ⟨13, _⟩ => ⟨S1x6, .f32⟩
  | .hbm, ⟨14, _⟩ => ⟨S32x6x196, .f32⟩
  | .hbm, ⟨15, _⟩ => ⟨S32x1176, .f32⟩
  | .local _ .vmem, ⟨0, _⟩ => ⟨S8x768x196, .f32⟩
  | .local _ .vmem, ⟨1, _⟩ => ⟨S8x768x196, .f32⟩
  | .local _ .vmem, ⟨2, _⟩ => ⟨S9x768x384, .bf16⟩
  | .local _ .vmem, ⟨3, _⟩ => ⟨S1x384, .f32⟩
  | .local _ .vmem, ⟨4, _⟩ => ⟨S384x6, .bf16⟩
  | .local _ .vmem, ⟨5, _⟩ => ⟨S1x6, .f32⟩
  | .local _ .vmem, ⟨6, _⟩ => ⟨S8x6x196, .f32⟩
  | .local _ .vmem, ⟨7, _⟩ => ⟨S8x6x196, .f32⟩
  | .local _ .vmem, ⟨8, _⟩ => ⟨S1888x768, .bf16⟩
  | _, _ => ⟨S32x768x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x768x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x768x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x6 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x6x196 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32x768x14x14 : Shape := ⟨4, ![32, 768, 14, 14]⟩
abbrev S384x768x3x3 : Shape := ⟨4, ![384, 768, 3, 3]⟩
abbrev S384 : Shape := ⟨1, ![384]⟩
abbrev S6x384x1x1 : Shape := ⟨4, ![6, 384, 1, 1]⟩
abbrev S6 : Shape := ⟨1, ![6]⟩
abbrev S_ : Shape := ⟨0, ![]⟩
abbrev S32x768x16x16 : Shape := ⟨4, ![32, 768, 16, 16]⟩
abbrev S32x384x14x14 : Shape := ⟨4, ![32, 384, 14, 14]⟩
abbrev S384x768x1x1 : Shape := ⟨4, ![384, 768, 1, 1]⟩
abbrev S384x768 : Shape := ⟨2, ![384, 768]⟩
abbrev S384x32x14x14 : Shape := ⟨4, ![384, 32, 14, 14]⟩
abbrev S1x384x1x1 : Shape := ⟨4, ![1, 384, 1, 1]⟩
abbrev S6x384 : Shape := ⟨2, ![6, 384]⟩
abbrev S6x32x14x14 : Shape := ⟨4, ![6, 32, 14, 14]⟩
abbrev S32x6x14x14 : Shape := ⟨4, ![32, 6, 14, 14]⟩
abbrev S1x6x1x1 : Shape := ⟨4, ![1, 6, 1, 1]⟩
abbrev S32x1176 : Shape := ⟨2, ![32, 1176]⟩

abbrev nBuf : Space → Nat
  | .hbm => 77
  | .vmem => 0
  | .smem => 0
  | _ => 0

abbrev bufTy : (tb : Table) → Fin (tcTables nBuf tb) → BufTy
  | .hbm, ⟨0, _⟩ => ⟨S32x768x14x14, .f32⟩
  | .hbm, ⟨1, _⟩ => ⟨S384x768x3x3, .f32⟩
  | .hbm, ⟨2, _⟩ => ⟨S384, .f32⟩
  | .hbm, ⟨3, _⟩ => ⟨S6x384x1x1, .f32⟩
  | .hbm, ⟨4, _⟩ => ⟨S6, .f32⟩
  | .hbm, ⟨5, _⟩ => ⟨S_, .i32⟩
  | .hbm, ⟨6, _⟩ => ⟨S_, .f32⟩
  | .hbm, ⟨7, _⟩ => ⟨S32x768x16x16, .f32⟩
  | .hbm, ⟨8, _⟩ => ⟨S_, .f32⟩
  | .hbm, ⟨9, _⟩ => ⟨S32x384x14x14, .f32⟩
  | .hbm, ⟨10, _⟩ => ⟨S32x768x14x14, .f32⟩
  | .hbm, ⟨11, _⟩ => ⟨S384x768x1x1, .f32⟩
  | .hbm, ⟨12, _⟩ => ⟨S384x768, .f32⟩
  | .hbm, ⟨13, _⟩ => ⟨S384x32x14x14, .f32⟩
  | .hbm, ⟨14, _⟩ => ⟨S32x384x14x14, .f32⟩
  | .hbm, ⟨15, _⟩ => ⟨S32x384x14x14, .f32⟩
  | .hbm, ⟨16, _⟩ => ⟨S32x768x14x14, .f32⟩
  | .hbm, ⟨17, _⟩ => ⟨S384x768x1x1, .f32⟩
  | .hbm, ⟨18, _⟩ => ⟨S384x768, .f32⟩
  | .hbm, ⟨19, _⟩ => ⟨S384x32x14x14, .f32⟩
  | .hbm, ⟨20, _⟩ => ⟨S32x384x14x14, .f32⟩
  | .hbm, ⟨21, _⟩ => ⟨S32x384x14x14, .f32⟩
  | .hbm, ⟨22, _⟩ => ⟨S32x768x14x14, .f32⟩
  | .hbm, ⟨23, _⟩ => ⟨S384x768x1x1, .f32⟩
  | .hbm, ⟨24, _⟩ => ⟨S384x768, .f32⟩
  | .hbm, ⟨25, _⟩ => ⟨S384x32x14x14, .f32⟩
  | .hbm, ⟨26, _⟩ => ⟨S32x384x14x14, .f32⟩
  | .hbm, ⟨27, _⟩ => ⟨S32x384x14x14, .f32⟩
  | .hbm, ⟨28, _⟩ => ⟨S32x768x14x14, .f32⟩
  | .hbm, ⟨29, _⟩ => ⟨S384x768x1x1, .f32⟩
  | .hbm, ⟨30, _⟩ => ⟨S384x768, .f32⟩
  | .hbm, ⟨31, _⟩ => ⟨S384x32x14x14, .f32⟩
  | .hbm, ⟨32, _⟩ => ⟨S32x384x14x14, .f32⟩
  | .hbm, ⟨33, _⟩ => ⟨S32x384x14x14, .f32⟩
  | .hbm, ⟨34, _⟩ => ⟨S32x768x14x14, .f32⟩
  | .hbm, ⟨35, _⟩ => ⟨S384x768x1x1, .f32⟩
  | .hbm, ⟨36, _⟩ => ⟨S384x768, .f32⟩
  | .hbm, ⟨37, _⟩ => ⟨S384x32x14x14, .f32⟩
  | .hbm, ⟨38, _⟩ => ⟨S32x384x14x14, .f32⟩
  | .hbm, ⟨39, _⟩ => ⟨S32x384x14x14, .f32⟩
  | .hbm, ⟨40, _⟩ => ⟨S32x768x14x14, .f32⟩
  | .hbm, ⟨41, _⟩ => ⟨S384x768x1x1, .f32⟩
  | .hbm, ⟨42, _⟩ => ⟨S384x768, .f32⟩
  | .hbm, ⟨43, _⟩ => ⟨S384x32x14x14, .f32⟩
  | .hbm, ⟨44, _⟩ => ⟨S32x384x14x14, .f32⟩
  | .hbm, ⟨45, _⟩ => ⟨S32x384x14x14, .f32⟩
  | .hbm, ⟨46, _⟩ => ⟨S32x768x14x14, .f32⟩
  | .hbm, ⟨47, _⟩ => ⟨S384x768x1x1, .f32⟩
  | .hbm, ⟨48, _⟩ => ⟨S384x768, .f32⟩
  | .hbm, ⟨49, _⟩ => ⟨S384x32x14x14, .f32⟩
  | .hbm, ⟨50, _⟩ => ⟨S32x384x14x14, .f32⟩
  | .hbm, ⟨51, _⟩ => ⟨S32x384x14x14, .f32⟩
  | .hbm, ⟨52, _⟩ => ⟨S32x768x14x14, .f32⟩
  | .hbm, ⟨53, _⟩ => ⟨S384x768x1x1, .f32⟩
  | .hbm, ⟨54, _⟩ => ⟨S384x768, .f32⟩
  | .hbm, ⟨55, _⟩ => ⟨S384x32x14x14, .f32⟩
  | .hbm, ⟨56, _⟩ => ⟨S32x384x14x14, .f32⟩
  | .hbm, ⟨57, _⟩ => ⟨S32x384x14x14, .f32⟩
  | .hbm, ⟨58, _⟩ => ⟨S32x768x14x14, .f32⟩
  | .hbm, ⟨59, _⟩ => ⟨S384x768x1x1, .f32⟩
  | .hbm, ⟨60, _⟩ => ⟨S384x768, .f32⟩
  | .hbm, ⟨61, _⟩ => ⟨S384x32x14x14, .f32⟩
  | .hbm, ⟨62, _⟩ => ⟨S32x384x14x14, .f32⟩
  | .hbm, ⟨63, _⟩ => ⟨S32x384x14x14, .f32⟩
  | .hbm, ⟨64, _⟩ => ⟨S1x384x1x1, .f32⟩
  | .hbm, ⟨65, _⟩ => ⟨S32x384x14x14, .f32⟩
  | .hbm, ⟨66, _⟩ => ⟨S32x384x14x14, .f32⟩
  | .hbm, ⟨67, _⟩ => ⟨S_, .f32⟩
  | .hbm, ⟨68, _⟩ => ⟨S32x384x14x14, .f32⟩
  | .hbm, ⟨69, _⟩ => ⟨S32x384x14x14, .f32⟩
  | .hbm, ⟨70, _⟩ => ⟨S6x384, .f32⟩
  | .hbm, ⟨71, _⟩ => ⟨S6x32x14x14, .f32⟩
  | .hbm, ⟨72, _⟩ => ⟨S32x6x14x14, .f32⟩
  | .hbm, ⟨73, _⟩ => ⟨S1x6x1x1, .f32⟩
  | .hbm, ⟨74, _⟩ => ⟨S32x6x14x14, .f32⟩
  | .hbm, ⟨75, _⟩ => ⟨S32x6x14x14, .f32⟩
  | .hbm, ⟨76, _⟩ => ⟨S32x1176, .f32⟩
  | _, _ => ⟨S32x768x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_call1_cst : Ref sig .tc := ⟨.hbm, 67, rfl⟩
abbrev main_call1_v0 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩

abbrev nD : Nat := 1
abbrev τ : Topo := Topo.v7x

variable {F : FTy → Type} [FloatOps F]
-- ==== Proof.Conv.Scratch.lean ====
/-
  THE PADDED IMAGES. Each grid point lays its eight images into one tall array, a pixel a row: image `b` starts at row
  `16 + 232 * b`, its 196 pixels follow in row-major order, and the rows between two images are zero. The rows between
  the images are zeroed at the first grid point only, and no later point stores to them. This file states what the array
  holds and proves that the stores of one point leave it, over a fill of zeros or over any contents that are already zero
  between the images.
-/
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Conv

open Cert.KernelIdeal Cert.KernelIdeal.Gen

/-- Row `r` of the tall array belongs to an image: it lies 16 rows or more down, within the first 196 of a group of 232
    rows, and in one of the eight groups. -/
abbrev InImage (r : ℕ) : Prop := 16 ≤ r ∧ (r - 16) % 232 < 196 ∧ (r - 16) / 232 < 8

/-- Eight images laid into the tall array: row `16 + 232 * b + p` holds pixel `p` of image `b`, channel by channel, and
    every other row is zero. -/
def padded (X : Vec Ideal S8x768x196 .f32) : Vec Ideal S1888x768 .bf16 := fun y =>
  if h : InImage (y 0).val then X (ix3 ⟨((y 0).val - 16) / 232, h.2.2⟩ (y 1) ⟨((y 0).val - 16) % 232, h.2.1⟩) else 0

/-- Off the images the padded array is zero. -/
theorem padded_gap (X : Vec Ideal S8x768x196 .f32) (y : S1888x768.Idx) (h : ¬ InImage (y 0).val) : padded X y = 0 := by
  rw [padded, dif_neg h]

/-- On row `16 + 232 * b + p` the padded array holds pixel `p` of image `b`. -/
theorem padded_at (X : Vec Ideal S8x768x196 .f32) (y : S1888x768.Idx) (b : Fin 8) (p : Fin 196)
    (h : (y 0).val = 16 + 232 * b.val + p.val) : padded X y = X (ix3 b (y 1) p) := by
  have hb := b.isLt
  have hp := p.isLt
  have hin : InImage (y 0).val := by refine ⟨?_, ?_, ?_⟩ <;> omega
  rw [padded, dif_pos hin]
  congr 2 <;> exact Fin.ext (by simp only; omega)

/-- The stores of one point: image `b` to the 196 rows from `16 + 232 * b`, the last store first. -/
def stores (X : Vec Ideal S8x768x196 .f32) : List (View.Piece (Elt Ideal) S1888x768 .bf16) :=
  [⟨Rect.unit ![1640, 0] ![196, 768] inb_S1888x768_S196x768_1640_0,
      k0_pay14 (F := Ideal) (View.ld (Val := Elt Ideal) (e' := .f32) X (Rect.unit ![7, 0, 0] ![1, 768, 196] inb_S8x768x196_S1x768x196_7_0_0))⟩,
   ⟨Rect.unit ![1408, 0] ![196, 768] inb_S1888x768_S196x768_1408_0,
      k0_pay13 (F := Ideal) (View.ld (Val := Elt Ideal) (e' := .f32) X (Rect.unit ![6, 0, 0] ![1, 768, 196] inb_S8x768x196_S1x768x196_6_0_0))⟩,
   ⟨Rect.unit ![1176, 0] ![196, 768] inb_S1888x768_S196x768_1176_0,
      k0_pay12 (F := Ideal) (View.ld (Val := Elt Ideal) (e' := .f32) X (Rect.unit ![5, 0, 0] ![1, 768, 196] inb_S8x768x196_S1x768x196_5_0_0))⟩,
   ⟨Rect.unit ![944, 0] ![196, 768] inb_S1888x768_S196x768_944_0,
      k0_pay11 (F := Ideal) (View.ld (Val := Elt Ideal) (e' := .f32) X (Rect.unit ![4, 0, 0] ![1, 768, 196] inb_S8x768x196_S1x768x196_4_0_0))⟩,
   ⟨Rect.unit ![712, 0] ![196, 768] inb_S1888x768_S196x768_712_0,
      k0_pay10 (F := Ideal) (View.ld (Val := Elt Ideal) (e' := .f32) X (Rect.unit ![3, 0, 0] ![1, 768, 196] inb_S8x768x196_S1x768x196_3_0_0))⟩,
   ⟨Rect.unit ![480, 0] ![196, 768] inb_S1888x768_S196x768_480_0,
      k0_pay9 (F := Ideal) (View.ld (Val := Elt Ideal) (e' := .f32) X (Rect.unit ![2, 0, 0] ![1, 768, 196] inb_S8x768x196_S1x768x196_2_0_0))⟩,
   ⟨Rect.unit ![248, 0] ![196, 768] inb_S1888x768_S196x768_248_0,
      k0_pay8 (F := Ideal) (View.ld (Val := Elt Ideal) (e' := .f32) X (Rect.unit ![1, 0, 0] ![1, 768, 196] inb_S8x768x196_S1x768x196_1_0_0))⟩,
   ⟨Rect.unit ![16, 0] ![196, 768] inb_S1888x768_S196x768_16_0,
      k0_pay7 (F := Ideal) (View.ld (Val := Elt Ideal) (e' := .f32) X (Rect.unit ![0, 0, 0] ![1, 768, 196] inb_S8x768x196_S1x768x196_0_0_0))⟩]

/-- The image read out of the block, its unit axis dropped, transposed: pixel `p`, channel `k`. -/
theorem image_payload (v : Vec Ideal S1x768x196 .f32) (x : S196x768.Idx) : k0_pay7 v x = v (ix3 0 (x 1) (x 0)) := by
  pointwise [k0_pay7]

/-- One image's store leaves that image's rows of the padded array. -/
theorem image_store (X : Vec Ideal S8x768x196 .f32) (b : Fin 8) (o : ℕ) (ho : o = 16 + 232 * b.val)
    (inb : ∀ a, (![o, 0] : Fin 2 → ℕ) a + (![196, 768] : Fin 2 → ℕ) a ≤ S1888x768.size a)
    (inb' : ∀ a, (![b.val, 0, 0] : Fin 3 → ℕ) a + (![1, 768, 196] : Fin 3 → ℕ) a ≤ S8x768x196.size a)
    (x : S196x768.Idx) :
    k0_pay7 (View.ld (Val := Elt Ideal) (e' := .f32) X (Rect.unit (s := S8x768x196) ![b.val, 0, 0] ![1, 768, 196] inb')) x
      = padded X ((Rect.unit (s := S1888x768) ![o, 0] ![196, 768] inb).emb x) := by
  rw [image_payload, padded_at X _ b (x 0) (by
    show o + 1 * (x 0).val = _
    omega)]
  refine View.ld_unit_apply_of (Val := Elt Ideal) (e := .f32) (S := S8x768x196) X _ _ inb' _ _ fun a => ?_
  match a with
  | ⟨0, _⟩ => rfl
  | ⟨1, _⟩ => show 0 + 1 * (x 1).val = 0 + (x 1).val; omega
  | ⟨2, _⟩ => show (x 0).val = 0 + (x 0).val; omega

/-- Every store of a point is a block of the padded array. -/
theorem stores_padded (X : Vec Ideal S8x768x196 .f32) : View.PiecesOf (padded X) (stores X) := by
  unfold stores
  exact ⟨image_store X 7 1640 rfl inb_S1888x768_S196x768_1640_0 inb_S8x768x196_S1x768x196_7_0_0,
    image_store X 6 1408 rfl inb_S1888x768_S196x768_1408_0 inb_S8x768x196_S1x768x196_6_0_0,
    image_store X 5 1176 rfl inb_S1888x768_S196x768_1176_0 inb_S8x768x196_S1x768x196_5_0_0,
    image_store X 4 944 rfl inb_S1888x768_S196x768_944_0 inb_S8x768x196_S1x768x196_4_0_0,
    image_store X 3 712 rfl inb_S1888x768_S196x768_712_0 inb_S8x768x196_S1x768x196_3_0_0,
    image_store X 2 480 rfl inb_S1888x768_S196x768_480_0 inb_S8x768x196_S1x768x196_2_0_0,
    image_store X 1 248 rfl inb_S1888x768_S196x768_248_0 inb_S8x768x196_S1x768x196_1_0_0,
    image_store X 0 16 rfl inb_S1888x768_S196x768_16_0 inb_S8x768x196_S1x768x196_0_0_0, trivial⟩

/-- An index that no store covers lies off the images. -/
theorem gap_of_not_covered (X : Vec Ideal S8x768x196 .f32) (y : S1888x768.Idx) (h : ¬ ∃ p ∈ stores X, y ∈ p.1.set) :
    ¬ InImage (y 0).val := by
  rintro ⟨h1, h2, h3⟩
  have key : ∀ (b : Fin 8) (o : ℕ) (ho : o = 16 + 232 * b.val)
      (inb : ∀ a, (![o, 0] : Fin 2 → ℕ) a + (![196, 768] : Fin 2 → ℕ) a ≤ S1888x768.size a),
      ((y 0).val - 16) / 232 = b.val → y ∈ (Rect.unit (s := S1888x768) ![o, 0] ![196, 768] inb).set := by
    intro b o ho inb hb
    refine Rect.mem_set_unit.mpr fun a => ?_
    match a with
    | ⟨0, _⟩ => show o ≤ (y 0).val ∧ (y 0).val < o + 196; omega
    | ⟨1, _⟩ => exact ⟨Nat.zero_le _, by show (y 1).val < 0 + 768; have := (y 1).isLt; simpa using this⟩
  have mem : ∀ (p : View.Piece (Elt Ideal) S1888x768 .bf16), p ∈ stores X → y ∉ p.1.set := fun p hp hy => h ⟨p, hp, hy⟩
  simp only [stores, List.mem_cons, List.not_mem_nil, or_false, forall_eq_or_imp, forall_eq] at mem
  obtain ⟨m7, m6, m5, m4, m3, m2, m1, m0⟩ := mem
  generalize hq : ((y 0).val - 16) / 232 = q at h3
  interval_cases q
  · exact m0 (key 0 16 rfl _ hq)
  · exact m1 (key 1 248 rfl _ hq)
  · exact m2 (key 2 480 rfl _ hq)
  · exact m3 (key 3 712 rfl _ hq)
  · exact m4 (key 4 944 rfl _ hq)
  · exact m5 (key 5 1176 rfl _ hq)
  · exact m6 (key 6 1408 rfl _ hq)
  · exact m7 (key 7 1640 rfl _ hq)

/-- The zero fill is zero. -/
theorem zero_fill (y : S1888x768.Idx) : k0_pay6 (F := Ideal) y = 0 := by
  pointwise [k0_pay6]

/-- At the first point: the eight stores over the zero fill leave the padded images. -/
theorem stores_over_fill (X : Vec Ideal S8x768x196 .f32) :
    View.canon (stores X ++ [⟨Rect.unit ![0, 0] ![1888, 768] inb_S1888x768_S1888x768_0_0, k0_pay6 (F := Ideal)⟩]) = padded X := by
  funext y
  by_cases h : ∃ p ∈ stores X, y ∈ p.1.set
  · exact View.canon_append_of_piecesOf (padded X) _ _ (stores_padded X) y h
  · rw [padded_gap X y (gap_of_not_covered X y h)]
    have hz : ∀ L : List (View.Piece (Elt Ideal) S1888x768 .bf16), (∀ p ∈ L, y ∉ p.1.set) →
        View.canon (L ++ [⟨Rect.unit ![0, 0] ![1888, 768] inb_S1888x768_S1888x768_0_0, k0_pay6 (F := Ideal)⟩]) y = 0 := by
      intro L
      induction L with
      | nil =>
        intro _
        rw [List.nil_append]
        exact (congrFun (View.canon_cons_unit_lit (Val := Elt Ideal) (e := .bf16) (S := S1888x768)
          inb_S1888x768_S1888x768_0_0 (k0_pay6 (F := Ideal)) [] (by decide)) y).trans (zero_fill y)
      | cons p L ih =>
        intro hp
        rw [List.cons_append, View.canon_cons_of_not_mem p _ (hp p List.mem_cons_self)]
        exact ih fun q hq => hp q (List.mem_cons_of_mem _ hq)
    exact hz (stores X) fun p hp hy => h ⟨p, hp, hy⟩

/-- At a later point: the eight stores over contents that are zero off the images leave the padded images. -/
theorem stores_over_gaps (X : Vec Ideal S8x768x196 .f32) (f : (View.whole cc0_scratch0).ty.Contents (Elt Ideal))
    (P : Vec Ideal S1888x768 .bf16) (hf : View.read (Elt Ideal) (View.whole cc0_scratch0) f = P)
    (hP : ∀ y : S1888x768.Idx, ¬ InImage (y 0).val → P y = 0) :
    View.read (Elt Ideal) (View.whole cc0_scratch0) ((View.whole cc0_scratch0).writes (Elt Ideal) f (stores X)) = padded X := by
  funext y
  by_cases h : ∃ p ∈ stores X, y ∈ p.1.set
  · rw [View.read_writes_apply_eq_canon _ f y _ h, ← List.append_nil (stores X)]
    exact View.canon_append_of_piecesOf (padded X) _ _ (stores_padded X) y h
  · rw [padded_gap X y (gap_of_not_covered X y h),
      View.read_writes_apply_of_forall_not_mem _ f y (stores X) fun p hp hy => h ⟨p, hp, hy⟩, hf]
    exact hP y (gap_of_not_covered X y h)

end Cert.KernelIdeal.Conv

end
-- ==== Proof.Conv.Body.lean ====
/-
  ONE POINT'S ARITHMETIC. From the padded images, the nine tap matrices, the two biases and the second layer's matrix, one
  grid point computes a table with a row for each pixel row of the padded array and a column for each of the six outputs:
  nine products of a shifted copy of the array with a tap matrix, the left and right taps replaced by zero in the first
  and last column of the image, added up; the first bias, the rectifier, the second product, the second bias. Its eight
  output stores are slices of that table, transposed.
-/
module

public import proofs.«01_k».proof.Proof.Conv.Scratch
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.KernelIdeal.Conv

open Cert.KernelIdeal Cert.KernelIdeal.Gen

variable (P : Vec Ideal S1888x768 .bf16) (W : Vec Ideal S9x768x384 .bf16) (b1 : Vec Ideal S1x384 .f32)
  (w2 : Vec Ideal S384x6 .bf16) (b2 : Vec Ideal S1x6 .f32)

/-- The column, within its image, of each row of the table. -/
def column : IVec S1856x1 32 := k0_pay16 (232#32) k0_pay15 (0#32)

/-- A copy of the padded array, its first row the array's row `s`. -/
abbrev shifted (s : ℕ) (inb : ∀ a, (![s, 0] : Fin 2 → ℕ) a + (![1856, 768] : Fin 2 → ℕ) a ≤ S1888x768.size a) :
    Vec Ideal S1856x768 .bf16 :=
  View.ld (Val := Elt Ideal) (e' := .bf16) P (Rect.unit (s := S1888x768) ![s, 0] ![1856, 768] inb)

/-- The matrix of tap `k`, on a leading unit axis. -/
abbrev tapMatrix (k : ℕ) (inb : ∀ a, (![k, 0, 0] : Fin 3 → ℕ) a + (![1, 768, 384] : Fin 3 → ℕ) a ≤ S9x768x384.size a) :
    Vec Ideal S1x768x384 .bf16 :=
  View.ld (Val := Elt Ideal) (e' := .bf16) W (Rect.unit (s := S9x768x384) ![k, 0, 0] ![1, 768, 384] inb)

/-- The first eight taps, added up. -/
def eightTaps : FVec Ideal S1856x384 .f32 :=
  k0_pay19 column
    (k0_pay18 column
      (k0_pay17 (232#32) k0_pay15 (0#32)
        (shifted P 1 inb_S1888x768_S1856x768_1_0) (tapMatrix W 0 inb_S9x768x384_S1x768x384_0_0_0))
      (shifted P 2 inb_S1888x768_S1856x768_2_0) (tapMatrix W 1 inb_S9x768x384_S1x768x384_1_0_0)
      (shifted P 3 inb_S1888x768_S1856x768_3_0) (tapMatrix W 2 inb_S9x768x384_S1x768x384_2_0_0)
      (shifted P 15 inb_S1888x768_S1856x768_15_0) (tapMatrix W 3 inb_S9x768x384_S1x768x384_3_0_0)
      (shifted P 16 inb_S1888x768_S1856x768_16_0) (tapMatrix W 4 inb_S9x768x384_S1x768x384_4_0_0))
    (shifted P 17 inb_S1888x768_S1856x768_17_0) (tapMatrix W 5 inb_S9x768x384_S1x768x384_5_0_0)
    (shifted P 29 inb_S1888x768_S1856x768_29_0) (tapMatrix W 6 inb_S9x768x384_S1x768x384_6_0_0)
    (shifted P 30 inb_S1888x768_S1856x768_30_0) (tapMatrix W 7 inb_S9x768x384_S1x768x384_7_0_0)

/-- The last tap, before its mask. -/
def lastTap : FVec Ideal S1856x384 .f32 :=
  k0_pay20 (shifted P 31 inb_S1888x768_S1856x768_31_0) (tapMatrix W 8 inb_S9x768x384_S1x768x384_8_0_0)

/-- The table one point computes. -/
def table : FVec Ideal S1856x6 .f32 :=
  k0_pay22 (eightTaps P W) (lastTap P W) (k0_pay21 column) (FloatOps.ofBits FTy.f32 0#32) b1 w2 b2

/-- A row's column: its place within its group of 232 rows, modulo the image's width. -/
theorem column_at (r : Fin 1856) : column (ix2 r 0) = BitVec.ofNat 32 (r.val % 232 % 14) := by
  pointwise [column, k0_pay16, k0_pay15]
  revert r
  decide +kernel

/-- A choice on an equality of words is a conditional. -/
theorem choose_eq (a b : BitVec 32) (x y : EReal) :
    Scalar.select (IntOp.cmpi .eq a b) x y = if a = b then x else y := by
  rw [WordCmp.cmpi_eq_eq, WordCmp.select_decide]

/-- A row of a shifted copy is a row of the padded array. -/
theorem shifted_at (s : ℕ) (inb) (r : Fin 1856) (c : Fin 768) (h : r.val + s < 1888) :
    shifted P s inb (ix2 r c) = P (ix2 ⟨r.val + s, h⟩ c) := by
  refine View.ld_unit_apply_of (Val := Elt Ideal) (e := .bf16) (S := S1888x768) P _ _ inb _ _ fun a => ?_
  match a with
  | ⟨0, _⟩ => exact Nat.add_comm _ _
  | ⟨1, _⟩ => exact (Nat.zero_add _).symm

/-- A tap's matrix is a member of the stack of matrices. -/
theorem tapMatrix_at (k : Fin 9) (inb) (c : Fin 768) (o : Fin 384) :
    tapMatrix W k.val inb (ix3 0 c o) = W (ix3 k c o) := by
  refine View.ld_unit_apply_of (Val := Elt Ideal) (e := .bf16) (S := S9x768x384) W _ _ inb _ _ fun a => ?_
  match a with
  | ⟨0, _⟩ => rfl
  | ⟨1, _⟩ => exact (Nat.zero_add _).symm
  | ⟨2, _⟩ => exact (Nat.zero_add _).symm

/-- Tap `(i, j)` of row `r`, output channel `o`: the product of the array's row `r + 14 * i + j + 1` with the tap's
    matrix, or zero where the tap falls off the left or the right edge of the image. -/
def tap (r : Fin 1856) (o : Fin 384) (i j : Fin 3) : EReal :=
  if (j = 0 ∧ r.val % 232 % 14 = 0) ∨ (j = 2 ∧ r.val % 232 % 14 = 13) then 0
  else ∑ c : Fin 768, P (ix2 ⟨r.val + (14 * i.val + j.val + 1), by omega⟩ c) * W (ix3 ⟨3 * i.val + j.val, by omega⟩ c o)

/-- The product a tap is made of, in terms of the shifted copy and the tap's matrix. -/
theorem product_at (r : Fin 1856) (o : Fin 384) (i j : Fin 3) (s k : ℕ) (hs : s = 14 * i.val + j.val + 1)
    (hk : k = 3 * i.val + j.val) (inb) (inb') :
    ∑ c : Fin 768, shifted P s inb (ix2 r c) * tapMatrix W k inb' (ix3 0 c o)
      = ∑ c : Fin 768, P (ix2 ⟨r.val + (14 * i.val + j.val + 1), by omega⟩ c)
          * W (ix3 ⟨3 * i.val + j.val, by omega⟩ c o) := by
  subst hs hk
  refine Finset.sum_congr rfl fun c _ => ?_
  rw [shifted_at P _ inb r c (by omega), tapMatrix_at W ⟨3 * i.val + j.val, by omega⟩ inb' c o]

/-- A left tap: masked in the image's first column. -/
theorem left_tap (r : Fin 1856) (o : Fin 384) (i : Fin 3) (s k : ℕ) (hs : s = 14 * i.val + 1) (hk : k = 3 * i.val)
    (inb) (inb') :
    Scalar.select (IntOp.cmpi .eq (column (ix2 r 0)) 0#32) 0
        (∑ c : Fin 768, shifted P s inb (ix2 r c) * tapMatrix W k inb' (ix3 0 c o)) = tap P W r o i 0 := by
  rw [choose_eq, product_at P W r o i 0 s k (by simpa using hs) (by simpa using hk), column_at, tap]
  refine if_congr ?_ rfl rfl
  have h : r.val % 232 % 14 < 14 := Nat.mod_lt _ (by omega)
  generalize r.val % 232 % 14 = w at h
  revert w
  decide

/-- A middle tap: never masked. -/
theorem middle_tap (r : Fin 1856) (o : Fin 384) (i : Fin 3) (s k : ℕ) (hs : s = 14 * i.val + 2) (hk : k = 3 * i.val + 1)
    (inb) (inb') :
    ∑ c : Fin 768, shifted P s inb (ix2 r c) * tapMatrix W k inb' (ix3 0 c o) = tap P W r o i 1 := by
  rw [product_at P W r o i 1 s k (by simpa using hs) (by simpa using hk), tap, if_neg (by simp)]

/-- A right tap: masked in the image's last column. -/
theorem right_tap (r : Fin 1856) (o : Fin 384) (i : Fin 3) (s k : ℕ) (hs : s = 14 * i.val + 3) (hk : k = 3 * i.val + 2)
    (inb) (inb') :
    Scalar.select (IntOp.cmpi .eq (column (ix2 r 0)) 13#32) 0
        (∑ c : Fin 768, shifted P s inb (ix2 r c) * tapMatrix W k inb' (ix3 0 c o)) = tap P W r o i 2 := by
  rw [choose_eq, product_at P W r o i 2 s k (by simpa using hs) (by simpa using hk), column_at, tap]
  refine if_congr ?_ rfl rfl
  have h : r.val % 232 % 14 < 14 := Nat.mod_lt _ (by omega)
  generalize r.val % 232 % 14 = w at h
  revert w
  decide

/-- The nine taps of a row, added up in order. -/
def taps (r : Fin 1856) (o : Fin 384) : EReal :=
  tap P W r o 0 0 + tap P W r o 0 1 + tap P W r o 0 2 + tap P W r o 1 0 + tap P W r o 1 1 + tap P W r o 1 2
    + tap P W r o 2 0 + tap P W r o 2 1 + tap P W r o 2 2

/-- The first eight taps, at a row and a channel. -/
theorem eightTaps_at (r : Fin 1856) (o : Fin 384) :
    eightTaps P W (ix2 r o) = tap P W r o 0 0 + tap P W r o 0 1 + tap P W r o 0 2 + tap P W r o 1 0 + tap P W r o 1 1
      + tap P W r o 1 2 + tap P W r o 2 0 + tap P W r o 2 1 := by
  pointwise [eightTaps, k0_pay17, k0_pay18, k0_pay19]
  rw [← left_tap P W r o 0 1 0 rfl rfl inb_S1888x768_S1856x768_1_0 inb_S9x768x384_S1x768x384_0_0_0,
    ← middle_tap P W r o 0 2 1 rfl rfl inb_S1888x768_S1856x768_2_0 inb_S9x768x384_S1x768x384_1_0_0,
    ← right_tap P W r o 0 3 2 rfl rfl inb_S1888x768_S1856x768_3_0 inb_S9x768x384_S1x768x384_2_0_0,
    ← left_tap P W r o 1 15 3 rfl rfl inb_S1888x768_S1856x768_15_0 inb_S9x768x384_S1x768x384_3_0_0,
    ← middle_tap P W r o 1 16 4 rfl rfl inb_S1888x768_S1856x768_16_0 inb_S9x768x384_S1x768x384_4_0_0,
    ← right_tap P W r o 1 17 5 rfl rfl inb_S1888x768_S1856x768_17_0 inb_S9x768x384_S1x768x384_5_0_0,
    ← left_tap P W r o 2 29 6 rfl rfl inb_S1888x768_S1856x768_29_0 inb_S9x768x384_S1x768x384_6_0_0,
    ← middle_tap P W r o 2 30 7 rfl rfl inb_S1888x768_S1856x768_30_0 inb_S9x768x384_S1x768x384_7_0_0]
  rfl

/-- The table, at a row and an output: the second layer of the rectified first layer. -/
theorem table_at (r : Fin 1856) (p : Fin 6) :
    table P W b1 w2 b2 (ix2 r p)
      = ∑ o : Fin 384, max (taps P W r o + b1 (ix2 0 o)) 0 * w2 (ix2 o p) + b2 (ix2 0 p) := by
  pointwise [table, k0_pay22, k0_pay21, lastTap, k0_pay20]
  refine congrArg (· + _) (Finset.sum_congr rfl fun o _ => ?_)
  rw [right_tap P W r o 2 31 8 rfl rfl inb_S1888x768_S1856x768_31_0 inb_S9x768x384_S1x768x384_8_0_0, eightTaps_at]
  rfl

/-- A payload of shape `[1, 6, 196]` that is the 196 rows of a table from row `o`, transposed. -/
def IsSlice (T : FVec Ideal S1856x6 .f32) (o : ℕ) (v : FVec Ideal S1x6x196 .f32) : Prop :=
  ∀ (x : S1x6x196.Idx) (r : Fin 1856), r.val = o + (x 2).val → v x = T (ix2 r (x 1))

/-- The first image's store: rows 0 to 195 of the table, transposed. -/
theorem slice_0 (u v : FVec Ideal S1856x384 .f32) (k : IVec S1856x1 1) (z : Ideal .f32) (b1 : Vec Ideal S1x384 .f32)
    (w2 : Vec Ideal S384x6 .bf16) (b2 : Vec Ideal S1x6 .f32) :
    IsSlice (k0_pay22 u v k z b1 w2 b2) 0 (k0_pay23 u v k z b1 w2 b2) := by
  intro x r hr
  pointwise [k0_pay23]
  exact congrArg (fun q => k0_pay22 u v k z b1 w2 b2 (ix2 q (x 1))) (Fin.ext (by simp only; omega))

/-- The second image's store: rows 232 to 427 of the table, transposed. -/
theorem slice_1 (u v : FVec Ideal S1856x384 .f32) (k : IVec S1856x1 1) (z : Ideal .f32) (b1 : Vec Ideal S1x384 .f32)
    (w2 : Vec Ideal S384x6 .bf16) (b2 : Vec Ideal S1x6 .f32) :
    IsSlice (k0_pay22 u v k z b1 w2 b2) 232 (k0_pay24 u v k z b1 w2 b2) := by
  intro x r hr
  pointwise [k0_pay24]
  exact congrArg (fun q => k0_pay22 u v k z b1 w2 b2 (ix2 q (x 1))) (Fin.ext (by simp only; omega))

/-- The third image's store: rows 464 to 659 of the table, transposed. -/
theorem slice_2 (u v : FVec Ideal S1856x384 .f32) (k : IVec S1856x1 1) (z : Ideal .f32) (b1 : Vec Ideal S1x384 .f32)
    (w2 : Vec Ideal S384x6 .bf16) (b2 : Vec Ideal S1x6 .f32) :
    IsSlice (k0_pay22 u v k z b1 w2 b2) 464 (k0_pay25 u v k z b1 w2 b2) := by
  intro x r hr
  pointwise [k0_pay25]
  exact congrArg (fun q => k0_pay22 u v k z b1 w2 b2 (ix2 q (x 1))) (Fin.ext (by simp only; omega))

/-- The fourth image's store: rows 696 to 891 of the table, transposed. -/
theorem slice_3 (u v : FVec Ideal S1856x384 .f32) (k : IVec S1856x1 1) (z : Ideal .f32) (b1 : Vec Ideal S1x384 .f32)
    (w2 : Vec Ideal S384x6 .bf16) (b2 : Vec Ideal S1x6 .f32) :
    IsSlice (k0_pay22 u v k z b1 w2 b2) 696 (k0_pay1 (k0_pay26 u v k z b1 w2 b2)) := by
  intro x r hr
  pointwise [k0_pay1, k0_pay26]
  exact congrArg (fun q => k0_pay22 u v k z b1 w2 b2 (ix2 q (x 1))) (Fin.ext (by simp only; omega))

/-- The fifth image's store: rows 928 to 1123 of the table, transposed. -/
theorem slice_4 (T : FVec Ideal S1856x6 .f32) : IsSlice T 928 (k0_pay2 T) := by
  intro x r hr
  pointwise [k0_pay2]
  exact congrArg (fun q => T (ix2 q (x 1))) (Fin.ext (by simp only; omega))

/-- The sixth image's store: rows 1160 to 1355 of the table, transposed. -/
theorem slice_5 (T : FVec Ideal S1856x6 .f32) : IsSlice T 1160 (k0_pay3 T) := by
  intro x r hr
  pointwise [k0_pay3]
  exact congrArg (fun q => T (ix2 q (x 1))) (Fin.ext (by simp only; omega))

/-- The seventh image's store: rows 1392 to 1587 of the table, transposed. -/
theorem slice_6 (T : FVec Ideal S1856x6 .f32) : IsSlice T 1392 (k0_pay4 T) := by
  intro x r hr
  pointwise [k0_pay4]
  exact congrArg (fun q => T (ix2 q (x 1))) (Fin.ext (by simp only; omega))

/-- The eighth image's store: rows 1624 to 1819 of the table, transposed. -/
theorem slice_7 (T : FVec Ideal S1856x6 .f32) : IsSlice T 1624 (k0_pay5 T) := by
  intro x r hr
  pointwise [k0_pay5]
  exact congrArg (fun q => T (ix2 q (x 1))) (Fin.ext (by simp only; omega))

/-- The eight stores of one point into its block of the output, the last store first. -/
def outStores : List (View.Piece (Elt Ideal) S8x6x196 .f32) :=
  [⟨Rect.unit ![7, 0, 0] ![1, 6, 196] inb_S8x6x196_S1x6x196_7_0_0,
      k0_pay5 (table P W b1 w2 b2)⟩,
   ⟨Rect.unit ![6, 0, 0] ![1, 6, 196] inb_S8x6x196_S1x6x196_6_0_0,
      k0_pay4 (table P W b1 w2 b2)⟩,
   ⟨Rect.unit ![5, 0, 0] ![1, 6, 196] inb_S8x6x196_S1x6x196_5_0_0,
      k0_pay3 (table P W b1 w2 b2)⟩,
   ⟨Rect.unit ![4, 0, 0] ![1, 6, 196] inb_S8x6x196_S1x6x196_4_0_0,
      k0_pay2 (table P W b1 w2 b2)⟩,
   ⟨Rect.unit ![3, 0, 0] ![1, 6, 196] inb_S8x6x196_S1x6x196_3_0_0,
      k0_pay1 (k0_pay26 (eightTaps P W) (lastTap P W) (k0_pay21 column) (FloatOps.ofBits FTy.f32 0#32) b1 w2 b2)⟩,
   ⟨Rect.unit ![2, 0, 0] ![1, 6, 196] inb_S8x6x196_S1x6x196_2_0_0,
      k0_pay25 (eightTaps P W) (lastTap P W) (k0_pay21 column) (FloatOps.ofBits FTy.f32 0#32) b1 w2 b2⟩,
   ⟨Rect.unit ![1, 0, 0] ![1, 6, 196] inb_S8x6x196_S1x6x196_1_0_0,
      k0_pay24 (eightTaps P W) (lastTap P W) (k0_pay21 column) (FloatOps.ofBits FTy.f32 0#32) b1 w2 b2⟩,
   ⟨Rect.unit ![0, 0, 0] ![1, 6, 196] inb_S8x6x196_S1x6x196_0_0_0,
      k0_pay23 (eightTaps P W) (lastTap P W) (k0_pay21 column) (FloatOps.ofBits FTy.f32 0#32) b1 w2 b2⟩]

/-- What one point leaves in its block of the output: image `b`, output `p`, pixel `q` is the table at row `232 * b + q`. -/
def outBlock : Vec Ideal S8x6x196 .f32 := fun y =>
  table P W b1 w2 b2 (ix2 ⟨232 * (y 0).val + (y 2).val, by
    have h0 : (y 0).val < 8 := (y 0).isLt
    have h2 : (y 2).val < 196 := (y 2).isLt
    omega⟩ (y 1))

/-- A store of a slice of the table to image `b` is a block of `outBlock`. -/
theorem slice_store (b : Fin 8) (o : ℕ) (ho : o = 232 * b.val) (v : FVec Ideal S1x6x196 .f32)
    (hv : IsSlice (table P W b1 w2 b2) o v)
    (inb : ∀ a, (![b.val, 0, 0] : Fin 3 → ℕ) a + (![1, 6, 196] : Fin 3 → ℕ) a ≤ S8x6x196.size a) (x : S1x6x196.Idx) :
    v x = outBlock P W b1 w2 b2 ((Rect.unit (s := S8x6x196) ![b.val, 0, 0] ![1, 6, 196] inb).emb x) := by
  have h0 : (x 0).val < 1 := (x 0).isLt
  have h2 : (x 2).val < 196 := (x 2).isLt
  rw [outBlock, hv x ⟨232 * (b.val + 1 * (x 0).val) + (0 + 1 * (x 2).val), by omega⟩ (by simp only; omega)]
  refine congrArg (table P W b1 w2 b2) (congrArg₂ ix2 rfl (Fin.ext ?_))
  show (x 1).val = 0 + 1 * (x 1).val
  omega

/-- The eight stores leave `outBlock`. -/
theorem outStores_eq : View.canon (outStores P W b1 w2 b2) = outBlock P W b1 w2 b2 := by
  funext y
  rw [← List.append_nil (outStores P W b1 w2 b2)]
  refine View.canon_append_of_piecesOf (outBlock P W b1 w2 b2) _ _ ?_ y ?_
  · unfold outStores
    exact ⟨slice_store P W b1 w2 b2 7 1624 rfl _ (slice_7 _) inb_S8x6x196_S1x6x196_7_0_0,
      slice_store P W b1 w2 b2 6 1392 rfl _ (slice_6 _) inb_S8x6x196_S1x6x196_6_0_0,
      slice_store P W b1 w2 b2 5 1160 rfl _ (slice_5 _) inb_S8x6x196_S1x6x196_5_0_0,
      slice_store P W b1 w2 b2 4 928 rfl _ (slice_4 _) inb_S8x6x196_S1x6x196_4_0_0,
      slice_store P W b1 w2 b2 3 696 rfl _ (slice_3 _ _ _ _ _ _ _) inb_S8x6x196_S1x6x196_3_0_0,
      slice_store P W b1 w2 b2 2 464 rfl _ (slice_2 _ _ _ _ _ _ _) inb_S8x6x196_S1x6x196_2_0_0,
      slice_store P W b1 w2 b2 1 232 rfl _ (slice_1 _ _ _ _ _ _ _) inb_S8x6x196_S1x6x196_1_0_0,
      slice_store P W b1 w2 b2 0 0 rfl _ (slice_0 _ _ _ _ _ _ _) inb_S8x6x196_S1x6x196_0_0_0, trivial⟩
  · exact View.cover_of_tiled _ ![1, 6, 196] (by rfl) y

end Cert.KernelIdeal.Conv

end
-- ==== Proof.Conv.Points.lean ====
/-
  EVERY POINT. After each grid point the tall array holds that point's padded images, and the point's block of the output
  is the transposed table: at the first point over the zero fill, at a later point because the point before it left zeros
  between the images.
-/
module

public import proofs.«01_k».proof.Proof.Conv.Body

@[expose] public section

set_option maxRecDepth 16384

noncomputable section

open Idealize.ShloMosaic Idealize.ShloMosaic.TcCoe Idealize.SL.Sem
open Idealize.ShloMosaic.Pipeline (Dat)

namespace Cert.KernelIdeal.Conv

open Cert.KernelIdeal Cert.KernelIdeal.Gen

variable (m : (ℓ : Loc nD τ sig) → Buf (Elt Ideal) ℓ)

/-- A load of the array at the first point, after the fill and the eight stores, is a load of the padded images. -/
theorem fill_load (X : Vec Ideal S8x768x196 .f32) (B : Rect S1888x768) :
    (View.whole cc0_scratch0).readCov (Val := Elt Ideal)
        (stores X ++ [⟨Rect.unit ![0, 0] ![1888, 768] inb_S1888x768_S1888x768_0_0, k0_pay6 (F := Ideal)⟩]) B.toLoadRect
      = View.ld (Val := Elt Ideal) (e' := .bf16) (padded X) B := by
  rw [View.readCov_eq_canon', stores_over_fill]
  rfl

/-- The first point leaves the padded images in the array. -/
theorem array_first (c : Dev nD) (t : Fin cfg0.N) (h0 : t.val % 4 = 0) :
    (outsAt0 m c t.val t.isLt).2 = padded (iblk m c 0 t) := by
  have key := stores_over_fill (iblk m c 0 t)
  simp only [stores, List.cons_append, List.nil_append] at key
  rw [outsAt0_A m c t h0]
  frame_out
  exact key

/-- The first point's block of the output. -/
theorem block_first (c : Dev nD) (t : Fin cfg0.N) (h0 : t.val % 4 = 0) :
    (outsAt0 m c t.val t.isLt).1
      = outBlock (padded (iblk m c 0 t)) (iblk m c 1 t) (iblk m c 2 t) (iblk m c 3 t) (iblk m c 4 t) := by
  have key := fill_load (iblk m c 0 t)
  simp only [stores, List.cons_append, List.nil_append] at key
  rw [outsAt0_A m c t h0, ← outStores_eq]
  frame_out
  simp only [key]
  rfl

/-- A later point leaves the padded images in the array, if the array was zero between the images. -/
theorem array_later (c : Dev nD) (t : Fin cfg0.N) (h0 : ¬ t.val % 4 = 0)
    (hP : ∀ y : S1888x768.Idx, ¬ InImage (y 0).val → (outsAt0 m c (t.val - 1) (Nat.lt_of_le_of_lt (Nat.sub_le _ _) t.isLt)).2 y = 0) :
    (outsAt0 m c t.val t.isLt).2 = padded (iblk m c 0 t) := by
  have key := stores_over_gaps (iblk m c 0 t) ((Memref.isWhole_whole cc0_scratch0).unread _) _ (read_unread_whole cc0_scratch0 _ _) hP
  simp only [stores] at key
  rw [outsAt0_B m c t h0]
  frame_out
  exact key

/-- A later point's block of the output, if the array was zero between the images. -/
theorem block_later (c : Dev nD) (t : Fin cfg0.N) (h0 : ¬ t.val % 4 = 0)
    (hP : ∀ y : S1888x768.Idx, ¬ InImage (y 0).val → (outsAt0 m c (t.val - 1) (Nat.lt_of_le_of_lt (Nat.sub_le _ _) t.isLt)).2 y = 0) :
    (outsAt0 m c t.val t.isLt).1
      = outBlock (padded (iblk m c 0 t)) (iblk m c 1 t) (iblk m c 2 t) (iblk m c 3 t) (iblk m c 4 t) := by
  have key := stores_over_gaps (iblk m c 0 t) ((Memref.isWhole_whole cc0_scratch0).unread _) _ (read_unread_whole cc0_scratch0 _ _) hP
  simp only [stores] at key
  rw [outsAt0_B m c t h0, ← outStores_eq]
  frame_out
  simp only [key]
  rfl

/-- After every point the array holds that point's padded images. -/
theorem array_at (c : Dev nD) : ∀ (n : ℕ) (h : n < cfg0.N), (outsAt0 m c n h).2 = padded (iblk m c 0 ⟨n, h⟩)
  | 0, h => array_first m c ⟨0, h⟩ rfl
  | n + 1, h => array_later m c ⟨n + 1, h⟩ (by
      have hN : n + 1 < 4 := lt_of_lt_of_eq h N_0
      show ¬ (n + 1) % 4 = 0
      omega) fun y hy => by
    show (outsAt0 m c n _).2 y = 0
    rw [array_at c n (Nat.lt_of_succ_lt h)]
    exact padded_gap _ y hy

/-- Every point's block of the output is the transposed table of its padded images. -/
theorem block_at (c : Dev nD) (t : Fin cfg0.N) :
    (outsAt0 m c t.val t.isLt).1
      = outBlock (padded (iblk m c 0 t)) (iblk m c 1 t) (iblk m c 2 t) (iblk m c 3 t) (iblk m c 4 t) := by
  by_cases h0 : t.val % 4 = 0
  · exact block_first m c t h0
  · refine block_later m c t h0 fun y hy => ?_
    rw [array_at m c (t.val - 1)]
    exact padded_gap _ y hy

end Cert.KernelIdeal.Conv

end
-- ==== Proof.Conv.Blocks.lean ====
/-
  WHAT EACH POINT IS GIVEN. The blocks of the five operands at a grid point, read off the program's arguments: eight images
  of the input, and the whole of the tap matrices, the two biases and the second layer's matrix, each rearranged on its way
  in by the program's own reshapes, transposes and casts.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Conv

open Cert.KernelIdeal Cert.KernelIdeal.Gen

variable (m : (ℓ : Loc nD τ sig) → Buf (Elt Ideal) ℓ)

/-- The input and the output move one block a point; every other operand is one block. -/
theorem idx : ∀ t : Fin cfg0.N, win0_0.index t = ![t.val, 0, 0] ∧ win0_1.index t = ![0, 0, 0] ∧ win0_2.index t = ![0, 0]
    ∧ win0_3.index t = ![0, 0] ∧ win0_4.index t = ![0, 0] ∧ win0_5.index t = ![t.val, 0, 0] :=
  (by decide +kernel : ∀ t : Fin grid0.N, _)

/-- A buffer when the kernel starts holds what the operations before the kernel leave in it. -/
theorem entry_eq (c : Dev nD) (b : Ref sig .tc) :
    V m c b = StableHlo.after hostOps0 (fun b => m (c, b)) (Proc.devRef .tc b) := by
  rw [V, V0, List.flatten_cons, List.flatten_nil, List.append_nil]

/-- The input as the kernel is given it, its pixels in row-major order. -/
theorem images_entry (c : Dev nD) (n : Fin 32) (k : Fin 768) (q : Fin 196) :
    V m c main_v0 (ix3 n k q)
      = m ((c : Thread nD τ).loc main_arg0) (ix4 n k ⟨q.val / 14, by omega⟩ ⟨q.val % 14, by omega⟩) := by
  rw [entry_eq]
  entry_read
  pointwise

/-- The tap matrices as the kernel is given them: tap `k` is the first layer's kernel at row `k / 3`, column `k % 3`,
    transposed. -/
theorem tapMatrices_entry (c : Dev nD) (k : Fin 9) (i : Fin 768) (o : Fin 384) :
    V m c main_v3 (ix3 k i o)
      = m ((c : Thread nD τ).loc main_arg1) (ix4 o i ⟨k.val / 3, by omega⟩ ⟨k.val % 3, by omega⟩) := by
  rw [entry_eq]
  entry_read
  pointwise

/-- The first layer's bias as the kernel is given it: a row. -/
theorem bias1_entry (c : Dev nD) (o : Fin 384) :
    V m c main_v7 (ix2 0 o) = m ((c : Thread nD τ).loc main_arg2) (ix1 o) := by
  rw [entry_eq]
  entry_read
  pointwise

/-- The second layer's matrix as the kernel is given it: transposed. -/
theorem matrix2_entry (c : Dev nD) (o : Fin 384) (p : Fin 6) :
    V m c main_v6 (ix2 o p) = m ((c : Thread nD τ).loc main_arg3) (ix4 p o 0 0) := by
  rw [entry_eq]
  entry_read
  pointwise

/-- The second layer's bias as the kernel is given it: a row. -/
theorem bias2_entry (c : Dev nD) (p : Fin 6) :
    V m c main_v8 (ix2 0 p) = m ((c : Thread nD τ).loc main_arg4) (ix1 p) := by
  rw [entry_eq]
  entry_read
  pointwise

/-- Image `b` of point `t` is image `8 * t + b` of the input, its pixels in row-major order. -/
theorem images_at (c : Dev nD) (t : Fin cfg0.N) (b : Fin 8) (k : Fin 768) (q : Fin 196) :
    iblk m c 0 t (ix3 b k q)
      = m ((c : Thread nD τ).loc main_arg0) (ix4 ⟨8 * t.val + b.val, by
          have h : t.val < 4 := lt_of_lt_of_eq t.isLt N_0
          omega⟩ k ⟨q.val / 14, by omega⟩ ⟨q.val % 14, by omega⟩) := by
  refine Eq.trans ?_ (images_entry m c _ k q)
  blk_ext! [iblk, idx t]

/-- Tap `k`'s matrix is the first layer's kernel at row `k / 3`, column `k % 3`, transposed. -/
theorem tapMatrices_at (c : Dev nD) (t : Fin cfg0.N) (k : Fin 9) (i : Fin 768) (o : Fin 384) :
    iblk m c 1 t (ix3 k i o)
      = m ((c : Thread nD τ).loc main_arg1) (ix4 o i ⟨k.val / 3, by omega⟩ ⟨k.val % 3, by omega⟩) := by
  refine Eq.trans ?_ (tapMatrices_entry m c k i o)
  blk_ext! [iblk, idx t]

/-- The first layer's bias, as a row. -/
theorem bias1_at (c : Dev nD) (t : Fin cfg0.N) (o : Fin 384) :
    iblk m c 2 t (ix2 0 o) = m ((c : Thread nD τ).loc main_arg2) (ix1 o) := by
  refine Eq.trans ?_ (bias1_entry m c o)
  blk_ext! [iblk, idx t]

/-- The second layer's matrix, transposed. -/
theorem matrix2_at (c : Dev nD) (t : Fin cfg0.N) (o : Fin 384) (p : Fin 6) :
    iblk m c 3 t (ix2 o p) = m ((c : Thread nD τ).loc main_arg3) (ix4 p o 0 0) := by
  refine Eq.trans ?_ (matrix2_entry m c o p)
  blk_ext! [iblk, idx t]

/-- The second layer's bias, as a row. -/
theorem bias2_at (c : Dev nD) (t : Fin cfg0.N) (p : Fin 6) :
    iblk m c 4 t (ix2 0 p) = m ((c : Thread nD τ).loc main_arg4) (ix1 p) := by
  refine Eq.trans ?_ (bias2_entry m c p)
  blk_ext! [iblk, idx t]

end Cert.KernelIdeal.Conv

end
-- ==== Proof.Conv.Spec.lean ====
/-
  THE MATHEMATICS. A 3 by 3 convolution of a 14 by 14 image surrounded by a ring of zeros, a bias, the rectifier, a linear
  map over the channels, a bias: one value for each image, output and pixel. Both programs compute these values.
-/
module

public import Idealize.ShloMosaic.Lib.Pipeline.ValueKit
public import Idealize.ShloMosaic.Lib.Pointwise

@[expose] public section

noncomputable section

open Idealize.ShloMosaic

namespace Cert.Conv

/-- The pixel at row `a`, column `b` of the ringed image, counted from the ring's corner: zero on the ring. -/
def pixel (x : Vec Ideal ⟨4, ![32, 768, 14, 14]⟩ .f32) (n : Fin 32) (c : Fin 768) (a b : ℕ) : EReal :=
  if h : 1 ≤ a ∧ a ≤ 14 ∧ 1 ≤ b ∧ b ≤ 14 then x (ix4 n c ⟨a - 1, by omega⟩ ⟨b - 1, by omega⟩) else 0

/-- One tap of the convolution, at row `h`, column `w` and output channel `o`: the sum over the input channels. -/
def product (x : Vec Ideal ⟨4, ![32, 768, 14, 14]⟩ .f32) (k : Vec Ideal ⟨4, ![384, 768, 3, 3]⟩ .f32) (n : Fin 32)
    (o : Fin 384) (h w : ℕ) (i j : Fin 3) : EReal :=
  ∑ c : Fin 768, k (ix4 o c i j) * pixel x n c (i.val + h) (j.val + w)

/-- The nine taps, added up in order. -/
def conv (x : Vec Ideal ⟨4, ![32, 768, 14, 14]⟩ .f32) (k : Vec Ideal ⟨4, ![384, 768, 3, 3]⟩ .f32) (n : Fin 32)
    (o : Fin 384) (h w : ℕ) : EReal :=
  product x k n o h w 0 0 + product x k n o h w 0 1 + product x k n o h w 0 2 + product x k n o h w 1 0
    + product x k n o h w 1 1 + product x k n o h w 1 2 + product x k n o h w 2 0 + product x k n o h w 2 1
    + product x k n o h w 2 2

/-- The value of image `n`, output `p`, at row `h` and column `w`. -/
def value (x : Vec Ideal ⟨4, ![32, 768, 14, 14]⟩ .f32) (k : Vec Ideal ⟨4, ![384, 768, 3, 3]⟩ .f32)
    (b1 : Vec Ideal ⟨1, ![384]⟩ .f32) (l : Vec Ideal ⟨4, ![6, 384, 1, 1]⟩ .f32) (b2 : Vec Ideal ⟨1, ![6]⟩ .f32)
    (n : Fin 32) (p : Fin 6) (h w : ℕ) : EReal :=
  ∑ o : Fin 384, l (ix4 p o 0 0) * max (conv x k n o h w + b1 (ix1 o)) 0 + b2 (ix1 p)

end Cert.Conv

end
-- ==== Proof.Conv.Equation.lean ====
/-
  THE EQUATION. A row of the padded array, shifted by a tap's offset, is the ringed image's pixel under that tap: above and
  below an image the array's rows are zero, as the ring is; to the left and to the right the row belongs to a neighbouring
  line, and the kernel's mask puts the ring's zero there. So a tap of the kernel is a tap of the convolution, and the
  table's entries are the values of the mathematics.
-/
module

public import proofs.«01_k».proof.Proof.Conv.Body
public import proofs.«01_k».proof.Proof.Conv.Spec

@[expose] public section

set_option maxRecDepth 16384

noncomputable section

open Idealize.ShloMosaic Idealize.ShloMosaic.TcCoe Idealize.SL.Sem

namespace Cert.KernelIdeal.Conv

open Cert.KernelIdeal Cert.KernelIdeal.Gen Cert.Conv

variable (X : Vec Ideal S8x768x196 .f32) (W : Vec Ideal S9x768x384 .bf16)
  (x : Vec Ideal ⟨4, ![32, 768, 14, 14]⟩ .f32) (k : Vec Ideal ⟨4, ![384, 768, 3, 3]⟩ .f32) (b : Fin 8) (n : Fin 32)

/-- Under a tap that stays between the image's left and right edges, the padded array holds the ringed image's pixel. -/
theorem padded_pixel
    (hX : ∀ (c : Fin 768) (q : Fin 196), X (ix3 b c q) = x (ix4 n c ⟨q.val / 14, by omega⟩ ⟨q.val % 14, by omega⟩))
    (q : Fin 196) (i j : Fin 3) (c : Fin 768) (hl : 1 ≤ j.val + q.val % 14) (hr : j.val + q.val % 14 ≤ 14)
    (y : Fin 1888) (hy : y.val = 232 * b.val + q.val + (14 * i.val + j.val + 1)) :
    padded X (ix2 y c) = pixel x n c (i.val + q.val / 14) (j.val + q.val % 14) := by
  by_cases hrow : 1 ≤ i.val + q.val / 14 ∧ i.val + q.val / 14 ≤ 14
  · rw [padded_at X _ b ⟨14 * (i.val + q.val / 14 - 1) + (j.val + q.val % 14 - 1), by omega⟩ (by
      show y.val = _
      simp only
      omega)]
    rw [pixel, dif_pos ⟨hrow.1, hrow.2, hl, hr⟩]
    refine (hX c _).trans (congrArg₂ (fun u v => x (ix4 n c u v)) (Fin.ext ?_) (Fin.ext ?_)) <;> simp only <;> omega
  · rw [pixel, dif_neg fun h => hrow ⟨h.1, h.2.1⟩]
    refine padded_gap X _ ?_
    show ¬ InImage y.val
    unfold InImage
    have hside : i.val + q.val / 14 = 0 ∨ i.val + q.val / 14 = 15 := by omega
    rcases hside with h | h <;> rcases Nat.lt_or_ge ((y.val - 16) / 232) b.val with h' | h' <;> omega

/-- A tap of the kernel is a tap of the convolution. -/
theorem tap_eq
    (hX : ∀ (c : Fin 768) (q : Fin 196), X (ix3 b c q) = x (ix4 n c ⟨q.val / 14, by omega⟩ ⟨q.val % 14, by omega⟩))
    (hW : ∀ (t : Fin 9) (c : Fin 768) (o : Fin 384),
      W (ix3 t c o) = k (ix4 o c ⟨t.val / 3, by omega⟩ ⟨t.val % 3, by omega⟩))
    (q : Fin 196) (r : Fin 1856) (hr : r.val = 232 * b.val + q.val) (o : Fin 384) (i j : Fin 3) :
    tap (padded X) W r o i j = product x k n o (q.val / 14) (q.val % 14) i j := by
  have hcol : r.val % 232 % 14 = q.val % 14 := by omega
  rw [tap, product, hcol]
  by_cases hm : (j = 0 ∧ q.val % 14 = 0) ∨ (j = 2 ∧ q.val % 14 = 13)
  · rw [if_pos hm]
    refine (Finset.sum_eq_zero fun c _ => ?_).symm
    rw [pixel, dif_neg, mul_zero]
    rintro ⟨-, -, h1, h2⟩
    rcases hm with ⟨rfl, h⟩ | ⟨rfl, h⟩ <;> simp only [Fin.val_zero, Fin.val_two] at h1 h2 <;> omega
  · rw [if_neg hm]
    have hl : 1 ≤ j.val + q.val % 14 := by
      by_contra h
      exact hm (.inl ⟨Fin.ext (by show j.val = 0; omega), by omega⟩)
    have hr' : j.val + q.val % 14 ≤ 14 := by
      by_contra h
      exact hm (.inr ⟨Fin.ext (by show j.val = 2; omega), by omega⟩)
    refine Finset.sum_congr rfl fun c _ => ?_
    rw [padded_pixel X x b n hX q i j c hl hr' _ (by simp only; omega), hW, mul_comm]
    refine congrArg (· * _) (congrArg₂ (fun u v => k (ix4 o c u v)) (Fin.ext ?_) (Fin.ext ?_)) <;> simp only <;> omega

/-- The nine taps of the kernel are the convolution. -/
theorem taps_eq
    (hX : ∀ (c : Fin 768) (q : Fin 196), X (ix3 b c q) = x (ix4 n c ⟨q.val / 14, by omega⟩ ⟨q.val % 14, by omega⟩))
    (hW : ∀ (t : Fin 9) (c : Fin 768) (o : Fin 384),
      W (ix3 t c o) = k (ix4 o c ⟨t.val / 3, by omega⟩ ⟨t.val % 3, by omega⟩))
    (q : Fin 196) (r : Fin 1856) (hr : r.val = 232 * b.val + q.val) (o : Fin 384) :
    taps (padded X) W r o = conv x k n o (q.val / 14) (q.val % 14) := by
  simp only [taps, conv, tap_eq X W x k b n hX hW q r hr]

/-- An entry of one point's block of the output is a value of the mathematics. -/
theorem outBlock_eq (b1 : Vec Ideal S1x384 .f32) (w2 : Vec Ideal S384x6 .bf16) (b2 : Vec Ideal S1x6 .f32)
    (d1 : Vec Ideal ⟨1, ![384]⟩ .f32) (l : Vec Ideal ⟨4, ![6, 384, 1, 1]⟩ .f32) (d2 : Vec Ideal ⟨1, ![6]⟩ .f32)
    (hX : ∀ (c : Fin 768) (q : Fin 196), X (ix3 b c q) = x (ix4 n c ⟨q.val / 14, by omega⟩ ⟨q.val % 14, by omega⟩))
    (hW : ∀ (t : Fin 9) (c : Fin 768) (o : Fin 384),
      W (ix3 t c o) = k (ix4 o c ⟨t.val / 3, by omega⟩ ⟨t.val % 3, by omega⟩))
    (h1 : ∀ o : Fin 384, b1 (ix2 0 o) = d1 (ix1 o)) (h2 : ∀ (o : Fin 384) (p : Fin 6), w2 (ix2 o p) = l (ix4 p o 0 0))
    (h3 : ∀ p : Fin 6, b2 (ix2 0 p) = d2 (ix1 p)) (p : Fin 6) (q : Fin 196) :
    outBlock (padded X) W b1 w2 b2 (ix3 b p q) = value x k d1 l d2 n p (q.val / 14) (q.val % 14) := by
  refine (table_at (padded X) W b1 w2 b2 ⟨232 * b.val + q.val, by omega⟩ p).trans ?_
  rw [value, h3]
  refine congrArg (· + _) (Finset.sum_congr rfl fun o _ => ?_)
  rw [taps_eq X W x k b n hX hW q _ rfl, h1, h2, mul_comm]

end Cert.KernelIdeal.Conv

end
-- ==== Proof.Conv.Output.lean ====
/-
  THE RESULT. The output array after the run: the four points' blocks tile it, so it holds the values of the mathematics,
  image by image, output by output, pixel by pixel; the program's last reshape flattens the outputs and the pixels.
-/
module

public import proofs.«01_k».proof.Proof.Conv.Points
public import proofs.«01_k».proof.Proof.Conv.Blocks
public import proofs.«01_k».proof.Proof.Conv.Equation

@[expose] public section

set_option maxRecDepth 16384

noncomputable section

open Idealize.ShloMosaic Idealize.ShloMosaic.TcCoe Idealize.SL.Sem
open Idealize.ShloMosaic.Pipeline (Dat)

namespace Cert.KernelIdeal.Conv

open Cert.KernelIdeal Cert.KernelIdeal.Gen Cert.Conv

variable (m : (ℓ : Loc nD τ sig) → Buf (Elt Ideal) ℓ)

/-- The values of the mathematics at the program's arguments, image by image, output by output, pixel by pixel. -/
def values (c : Dev nD) : Vec Ideal S32x6x196 .f32 := fun i =>
  value (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1) ((i 2).val / 14) ((i 2).val % 14)

/-- A point's block of the output holds the values of its eight images. -/
theorem block_values (c : Dev nD) (t : Fin cfg0.N) (b : Fin 8) (p : Fin 6) (q : Fin 196) :
    (outsAt0 m c t.val t.isLt).1 (ix3 b p q)
      = values m c (ix3 ⟨8 * t.val + b.val, by
          have h : t.val < 4 := lt_of_lt_of_eq t.isLt N_0
          omega⟩ p q) := by
  rw [block_at m c t]
  exact outBlock_eq _ _ _ _ b _ _ _ _ _ _ _ (fun k q => images_at m c t b k q) (fun k i o => tapMatrices_at m c t k i o)
    (fun o => bias1_at m c t o) (fun o p => matrix2_at m c t o p) (fun p => bias2_at m c t p) p q

/-- The output array after the run holds the values. -/
theorem array_values (c : Dev nD) : (dats m 0 c).arrAt 5 cfg0.N = values m c := by
  refine (dats m 0 c).arrAt_eq_of_covers 5 _ (by decide +kernel) fun t hf y => ?_
  blk_simp
  rw [after0_5]
  refine ((congrArg (outsAt0 m c t.val t.isLt).1 (eq_ix3 y)).trans (block_values m c t (y 0) (y 1) (y 2))).trans
    (congrArg (values m c) ?_)
  blk_ext [idx t]

/-- The program's result: the values, with the outputs and the pixels of an image in one row. -/
def flatValues (c : Dev nD) : Vec Ideal S32x1176 .f32 := fun i =>
  value (m ((c : Thread nD τ).loc main_arg0)) (m ((c : Thread nD τ).loc main_arg1)) (m ((c : Thread nD τ).loc main_arg2))
    (m ((c : Thread nD τ).loc main_arg3)) (m ((c : Thread nD τ).loc main_arg4)) (i 0)
    ⟨(i 1).val / 196, by have h : (i 1).val < 1176 := (i 1).isLt; omega⟩ ((i 1).val / 14 % 14) ((i 1).val % 14)

/-- Flattening the values gives the result. -/
theorem flatten_values (c : Dev nD) :
    shapeCast S32x1176 (values m c) shapeCasts_S32x6x196_S32x1176 = flatValues m c := by
  funext i
  obtain ⟨n, r, rfl⟩ : ∃ (n : Fin 32) (r : Fin 1176), i = ix2 n r := ⟨i 0, i 1, eq_ix2 i⟩
  refine Eq.trans (b := values m c (ix3 n ⟨r.val / 196, by omega⟩ ⟨r.val % 196, by omega⟩)) ?_ ?_
  · pointwise
    blk_ext
  · have h1 : r.val % 196 / 14 = r.val / 14 % 14 := by omega
    have h2 : r.val % 196 % 14 = r.val % 14 := by omega
    show value _ _ _ _ _ n _ (r.val % 196 / 14) (r.val % 196 % 14) = value _ _ _ _ _ n _ (r.val / 14 % 14) (r.val % 14)
    rw [h1, h2]
    rfl

/-- The last reshape leaves the result in the returned buffer. -/
theorem returned (c : Dev nD) :
    Pipeline.afterTail₀ cfgs (dats m) 0 (V0 m) [hostOps1] c main_v10 = flatValues m c := by
  unfold Pipeline.afterTail₀
  rw [List.flatten_cons, List.flatten_nil, List.append_nil]
  after_results
  rw [show Pipeline.withArrays _ c (V0 m c) _ _ = _ from
    Pipeline.withArrays_arr spec0 (by decide) c (V0 m c) (fun w => (dats m 0 c).arrAt w cfg0.N) 5, array_values m c]
  exact flatten_values m c

end Cert.KernelIdeal.Conv

end
-- ==== Proof.Conv.Reference.lean ====
/-
  THE REFERENCE. Its result, read at an image and a position in the flattened outputs, is the value of the mathematics at
  the position's output, row and column.
-/
module

public import proofs.«01_k».proof.Proof.Gen.ReferenceIdeal.Run
public import proofs.«01_k».proof.Proof.Conv.Spec

@[expose] public section

set_option maxRecDepth 16384

noncomputable section

open Idealize.ShloMosaic Idealize.ShloMosaic.TcCoe Idealize.SL.Sem

namespace Cert.ReferenceIdeal.Conv

open Cert.ReferenceIdeal Cert.ReferenceIdeal.Gen Cert.ReferenceIdeal.Value Cert.Conv

variable (m : (ℓ : Loc nD τ sig) → Buf (Elt Ideal) ℓ)

/-- The input with its ring of zeros. -/
def ringed (x : Vec Ideal S32x768x14x14 .f32) : Vec Ideal S32x768x16x16 .f32 :=
  pad S32x768x16x16 ![0, 0, 1, 1] ![0, 0, 1, 1] ![0, 0, 0, 0] x (sitofp (F := Ideal) .f32 (constantI S_ 32 0#32))
    pads_S32x768x14x14_S32x768x16x16_000_000_110_110 h_S_

/-- The ringed input at an index. -/
theorem ringed_at (x : Vec Ideal S32x768x14x14 .f32) (n : Fin 32) (c : Fin 768) (a b : Fin 16) :
    ringed x (ix4 n c a b) = pixel x n c a.val b.val := by
  pointwise [ringed, pixel]
  have hzero : FloatOps.sitofp (F := Ideal) .f32 0#32 = (0 : EReal) := by
    show (((0#32 : BitVec 32).toInt : ℝ) : EReal) = 0
    simp
  rw [hzero]
  exact dite_congr (propext (by omega)) (fun _ => rfl) (fun _ => rfl)

/-- The reference's result at an index. -/
theorem result_at (c : Dev nD) (n : Fin 32) (r : Fin 1176) :
    res_main_v66 m c (ix2 n r)
      = value (m ((c : Thread nD τ).loc main_arg0)) (m ((c : Thread nD τ).loc main_arg1))
          (m ((c : Thread nD τ).loc main_arg2)) (m ((c : Thread nD τ).loc main_arg3))
          (m ((c : Thread nD τ).loc main_arg4)) n ⟨r.val / 196, by omega⟩ (r.val / 14 % 14) (r.val % 14) := by
  have hpad : pad S32x768x16x16 ![0, 0, 1, 1] ![0, 0, 1, 1] ![0, 0, 0, 0] (m ((c : Thread nD τ).loc main_arg0))
      (sitofp (F := Ideal) .f32 (constantI S_ 32 0#32)) pads_S32x768x14x14_S32x768x16x16_000_000_110_110 h_S_
        = ringed (m ((c : Thread nD τ).loc main_arg0)) := rfl
  rw [res_main_v66, hpad]
  pointwise
  simp only [ringed_at, value, conv, product, Fin.val_zero, Fin.val_one, Fin.val_two, zero_add]

end Cert.ReferenceIdeal.Conv

end
-- ==== Proof.lean ====
/-
  THE CLAIMS. The kernel's version, run over floats and over extended reals, and the reference each run, leave their
  arguments and the counters alone, and the kernel over the extended reals is the same program; and over the extended reals the
  kernel and the reference end with equal results: both are, entry by entry, the value of the mathematics at the arguments
  (Conv/Output and Conv/Reference).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Conv.Output
public import proofs.«01_k».proof.Proof.Conv.Reference
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel and the reference end with the same array: entry by entry, the value of the mathematics at the arguments. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Conv.flatValues m c, ?_, ?_⟩
  · refine (θ_run _ _ _).mono (fun r h c => ⟨?_, h.2 c⟩)
      (θ_run_and (Cert.KernelIdeal.Gen.run_main m g) (Cert.KernelIdeal.Gen.unchanged m g))
    exact ((h.1 c).2 _ (by decide)).trans (Cert.KernelIdeal.Conv.returned m c)
  · refine (θ_run _ _ _).mono (fun r h c => ⟨(h c).1.trans ?_, (h c).2⟩) (Cert.ReferenceIdeal.Value.run m' g')
    obtain ⟨h0, h1, h2, h3, h4⟩ := hagree c
    funext i
    obtain ⟨n, q, rfl⟩ : ∃ (n : Fin 32) (q : Fin 1176), i = ix2 n q := ⟨i 0, i 1, eq_ix2 i⟩
    refine (Cert.ReferenceIdeal.Conv.result_at m' c n q).trans ?_
    rw [h0, h1, h2, h3, h4]
    rfl

/-- The reference runs and leaves its arguments and the counters alone. -/
theorem reference : Cert.quiescent_ReferenceIdeal (hReferenceIdeal := Cert.ReferenceIdeal.Gen.facts) := by
  intro m g _
  refine (θ_run _ _ _).mono (fun r h => ⟨fun c => (h c).2, ?_⟩) (Cert.ReferenceIdeal.Value.run m g)
  exact sem_eq_zero_of_no_sems (by decide) r.2

theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference, trivial, algebraic⟩

end Cert.Proof

end
